-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x10000x128 : Shape := ⟨3, ![1, 10000, 128]⟩
abbrev S2x10000x10000 : Shape := ⟨3, ![2, 10000, 10000]⟩
abbrev S_ : Shape := ⟨0, ![]⟩
abbrev S1x10000 : Shape := ⟨2, ![1, 10000]⟩
abbrev S2x128x64 : Shape := ⟨3, ![2, 128, 64]⟩
abbrev S2x64 : Shape := ⟨2, ![2, 64]⟩
abbrev S64x32 : Shape := ⟨2, ![64, 32]⟩
abbrev S32 : Shape := ⟨1, ![32]⟩
abbrev S64x64 : Shape := ⟨2, ![64, 64]⟩
abbrev S10000x128 : Shape := ⟨2, ![10000, 128]⟩
abbrev S2x10000x128 : Shape := ⟨3, ![2, 10000, 128]⟩
abbrev S1x128x64 : Shape := ⟨3, ![1, 128, 64]⟩
abbrev S128x64 : Shape := ⟨2, ![128, 64]⟩
abbrev S10000x64 : Shape := ⟨2, ![10000, 64]⟩
abbrev S1x10000x64 : Shape := ⟨3, ![1, 10000, 64]⟩
abbrev S2x128 : Shape := ⟨2, ![2, 128]⟩
abbrev S2x1x128 : Shape := ⟨3, ![2, 1, 128]⟩
abbrev S1x400x10000 : Shape := ⟨3, ![1, 400, 10000]⟩
abbrev S1x1x128 : Shape := ⟨3, ![1, 1, 128]⟩
abbrev S1x400x128 : Shape := ⟨3, ![1, 400, 128]⟩
abbrev S400x10000 : Shape := ⟨2, ![400, 10000]⟩
abbrev S400x128 : Shape := ⟨2, ![400, 128]⟩
abbrev S1x128 : Shape := ⟨2, ![1, 128]⟩
abbrev S10000x1 : Shape := ⟨2, ![10000, 1]⟩
abbrev S10000 : Shape := ⟨1, ![10000]⟩
abbrev S10000x2 : Shape := ⟨2, ![10000, 2]⟩
abbrev S1x32 : Shape := ⟨2, ![1, 32]⟩
abbrev S10000x32 : Shape := ⟨2, ![10000, 32]⟩
abbrev S1x10000x32 : Shape := ⟨3, ![1, 10000, 32]⟩
abbrev S1 : Shape := ⟨1, ![1]⟩
abbrev S1x1x1 : Shape := ⟨3, ![1, 1, 1]⟩
abbrev S64 : Shape := ⟨1, ![64]⟩
abbrev S1x64 : Shape := ⟨2, ![1, 64]⟩
abbrev S1x10000x1 : Shape := ⟨3, ![1, 10000, 1]⟩
abbrev S2x10000 : Shape := ⟨2, ![2, 10000]⟩
abbrev S1x20000 : Shape := ⟨2, ![1, 20000]⟩

abbrev nBuf : Space → Nat
  | .hbm => 30
  | .vmem => 22
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S2x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S1x10000, .f32⟩
  | .hbm, ⟨7, _⟩ => ⟨S2x128x64, .f32⟩
  | .hbm, ⟨8, _⟩ => ⟨S2x64, .f32⟩
  | .hbm, ⟨9, _⟩ => ⟨S64x32, .f32⟩
  | .hbm, ⟨10, _⟩ => ⟨S32, .f32⟩
  | .hbm, ⟨11, _⟩ => ⟨S32, .f32⟩
  | .hbm, ⟨12, _⟩ => ⟨S64x64, .f32⟩
  | .hbm, ⟨13, _⟩ => ⟨S10000x128, .f32⟩
  | .hbm, ⟨14, _⟩ => ⟨S10000x128, .f32⟩
  | .hbm, ⟨15, _⟩ => ⟨S2x10000x128, .f32⟩
  | .hbm, ⟨16, _⟩ => ⟨S2x128, .f32⟩
  | .hbm, ⟨17, _⟩ => ⟨S2x1x128, .f32⟩
  | .hbm, ⟨18, _⟩ => ⟨S2x10000x128, .f32⟩
  | .hbm, ⟨19, _⟩ => ⟨S10000x1, .f32⟩
  | .hbm, ⟨20, _⟩ => ⟨S10000, .f32⟩
  | .hbm, ⟨21, _⟩ => ⟨S10000, .f32⟩
  | .hbm, ⟨22, _⟩ => ⟨S10000x1, .f32⟩
  | .hbm, ⟨23, _⟩ => ⟨S10000x1, .f32⟩
  | .hbm, ⟨24, _⟩ => ⟨S10000x2, .f32⟩
  | .hbm, ⟨25, _⟩ => ⟨S1x32, .f32⟩
  | .hbm, ⟨26, _⟩ => ⟨S1x32, .f32⟩
  | .hbm, ⟨27, _⟩ => ⟨S10000x2, .f32⟩
  | .hbm, ⟨28, _⟩ => ⟨S2x10000, .f32⟩
  | .hbm, ⟨29, _⟩ => ⟨S1x20000, .f32⟩
  | .local _ .vmem, ⟨0, _⟩ => ⟨S10000x128, .f32⟩
  | .local _ .vmem, ⟨1, _⟩ => ⟨S10000x128, .f32⟩
  | .local _ .vmem, ⟨2, _⟩ => ⟨S1x128x64, .f32⟩
  | .local _ .vmem, ⟨3, _⟩ => ⟨S1x128x64, .f32⟩
  | .local _ .vmem, ⟨4, _⟩ => ⟨S1x10000x128, .f32⟩
  | .local _ .vmem, ⟨5, _⟩ => ⟨S1x10000x128, .f32⟩
  | .local _ .vmem, ⟨6, _⟩ => ⟨S1x400x10000, .f32⟩
  | .local _ .vmem, ⟨7, _⟩ => ⟨S1x400x10000, .f32⟩
  | .local _ .vmem, ⟨8, _⟩ => ⟨S1x10000x128, .f32⟩
  | .local _ .vmem, ⟨9, _⟩ => ⟨S1x10000x128, .f32⟩
  | .local _ .vmem, ⟨10, _⟩ => ⟨S1x1x128, .f32⟩
  | .local _ .vmem, ⟨11, _⟩ => ⟨S1x1x128, .f32⟩
  | .local _ .vmem, ⟨12, _⟩ => ⟨S1x400x128, .f32⟩
  | .local _ .vmem, ⟨13, _⟩ => ⟨S1x400x128, .f32⟩
  | .local _ .vmem, ⟨14, _⟩ => ⟨S2x10000x128, .f32⟩
  | .local _ .vmem, ⟨15, _⟩ => ⟨S64x32, .f32⟩
  | .local _ .vmem, ⟨16, _⟩ => ⟨S1x32, .f32⟩
  | .local _ .vmem, ⟨17, _⟩ => ⟨S1x32, .f32⟩
  | .local _ .vmem, ⟨18, _⟩ => ⟨S10000x1, .f32⟩
  | .local _ .vmem, ⟨19, _⟩ => ⟨S10000x2, .f32⟩
  | .local _ .vmem, ⟨20, _⟩ => ⟨S64x64, .f32⟩
  | .local _ .vmem, ⟨21, _⟩ => ⟨S10000x2, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2x10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10000x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S10000x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S10000x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]
-- ==== ReferenceIdeal.lean ====
abbrev S1x10000x128 : Shape := ⟨3, ![1, 10000, 128]⟩
abbrev S2x10000x10000 : Shape := ⟨3, ![2, 10000, 10000]⟩
abbrev S_ : Shape := ⟨0, ![]⟩
abbrev S1x10000 : Shape := ⟨2, ![1, 10000]⟩
abbrev S2x128x64 : Shape := ⟨3, ![2, 128, 64]⟩
abbrev S2x64 : Shape := ⟨2, ![2, 64]⟩
abbrev S64x32 : Shape := ⟨2, ![64, 32]⟩
abbrev S32 : Shape := ⟨1, ![32]⟩
abbrev S64x64 : Shape := ⟨2, ![64, 64]⟩
abbrev S1x128x64 : Shape := ⟨3, ![1, 128, 64]⟩
abbrev S128x64 : Shape := ⟨2, ![128, 64]⟩
abbrev S1x10000x64 : Shape := ⟨3, ![1, 10000, 64]⟩
abbrev S1x10000x10000 : Shape := ⟨3, ![1, 10000, 10000]⟩
abbrev S10000x10000 : Shape := ⟨2, ![10000, 10000]⟩
abbrev S1x64x10000 : Shape := ⟨3, ![1, 64, 10000]⟩
abbrev S1x64 : Shape := ⟨2, ![1, 64]⟩
abbrev S64 : Shape := ⟨1, ![64]⟩
abbrev S1x1x64 : Shape := ⟨3, ![1, 1, 64]⟩
abbrev S1x1x10000x64 : Shape := ⟨4, ![1, 1, 10000, 64]⟩
abbrev S2x1x10000x64 : Shape := ⟨4, ![2, 1, 10000, 64]⟩
abbrev S2x1x10000x32 : Shape := ⟨4, ![2, 1, 10000, 32]⟩
abbrev S1x1x1x32 : Shape := ⟨4, ![1, 1, 1, 32]⟩
abbrev S2x1 : Shape := ⟨2, ![2, 1]⟩
abbrev S1 : Shape := ⟨1, ![1]⟩
abbrev S1x1 : Shape := ⟨2, ![1, 1]⟩
abbrev S1x10000x1 : Shape := ⟨3, ![1, 10000, 1]⟩
abbrev S1x20000 : Shape := ⟨2, ![1, 20000]⟩

abbrev nBuf : Space → Nat
  | .hbm => 159
  | .vmem => 0
  | .smem => 0
  | _ => 0

abbrev hbmTy0_0 (i : Nat) : BufTy := match i % 128 with
  | 0 => ⟨S1x10000x128, .f32⟩
  | 1 => ⟨S1x10000x128, .f32⟩
  | 2 => ⟨S2x10000x10000, .f32⟩
  | 3 => ⟨S_, .i32⟩
  | 4 => ⟨S1x10000, .f32⟩
  | 5 => ⟨S1x10000, .f32⟩
  | 6 => ⟨S1x10000, .f32⟩
  | 7 => ⟨S2x128x64, .f32⟩
  | 8 => ⟨S2x64, .f32⟩
  | 9 => ⟨S64x32, .f32⟩
  | 10 => ⟨S32, .f32⟩
  | 11 => ⟨S32, .f32⟩
  | 12 => ⟨S64x64, .f32⟩
  | 13 => ⟨S1x128x64, .f32⟩
  | 14 => ⟨S128x64, .f32⟩
  | 15 => ⟨S1x10000x64, .f32⟩
  | 16 => ⟨S1x10000x10000, .f32⟩
  | 17 => ⟨S10000x10000, .f32⟩
  | 18 => ⟨S1x64x10000, .f32⟩
  | 19 => ⟨S1x10000x64, .f32⟩
  | 20 => ⟨S1x64, .f32⟩
  | 21 => ⟨S64, .f32⟩
  | 22 => ⟨S1x1x64, .f32⟩
  | 23 => ⟨S1x10000x64, .f32⟩
  | 24 => ⟨S1x10000x64, .f32⟩
  | 25 => ⟨S_, .f32⟩
  | 26 => ⟨S1x10000x64, .f32⟩
  | 27 => ⟨S1x10000x64, .f32⟩
  | 28 => ⟨S1x128x64, .f32⟩
  | 29 => ⟨S128x64, .f32⟩
  | 30 => ⟨S1x10000x64, .f32⟩
  | 31 => ⟨S1x10000x10000, .f32⟩
  | 32 => ⟨S10000x10000, .f32⟩
  | 33 => ⟨S1x64x10000, .f32⟩
  | 34 => ⟨S1x10000x64, .f32⟩
  | 35 => ⟨S1x64, .f32⟩
  | 36 => ⟨S64, .f32⟩
  | 37 => ⟨S1x1x64, .f32⟩
  | 38 => ⟨S1x10000x64, .f32⟩
  | 39 => ⟨S1x10000x64, .f32⟩
  | 40 => ⟨S_, .f32⟩
  | 41 => ⟨S1x10000x64, .f32⟩
  | 42 => ⟨S1x10000x64, .f32⟩
  | 43 => ⟨S1x1x10000x64, .f32⟩
  | 44 => ⟨S1x1x10000x64, .f32⟩
  | 45 => ⟨S2x1x10000x64, .f32⟩
  | 46 => ⟨S2x1x10000x32, .f32⟩
  | 47 => ⟨S1x1x1x32, .f32⟩
  | 48 => ⟨S2x1x10000x32, .f32⟩
  | 49 => ⟨S2x1x10000x32, .f32⟩
  | 50 => ⟨S2x1x10000x32, .f32⟩
  | 51 => ⟨S1x1x1x32, .f32⟩
  | 52 => ⟨S2x1x10000x32, .f32⟩
  | 53 => ⟨S2x1x10000x32, .f32⟩
  | 54 => ⟨S_, .f32⟩
  | 55 => ⟨S2x1, .f32⟩
  | 56 => ⟨S_, .f32⟩
  | 57 => ⟨S2x1, .f32⟩
  | 58 => ⟨S2x1, .f32⟩
  | 59 => ⟨S_, .f32⟩
  | 60 => ⟨S1, .f32⟩
  | 61 => ⟨S_, .f32⟩
  | 62 => ⟨S1, .f32⟩
  | 63 => ⟨S1, .f32⟩
  | 64 => ⟨S1x1, .f32⟩
  | 65 => ⟨S2x1, .f32⟩
  | 66 => ⟨S2x1, .f32⟩
  | 67 => ⟨S2x1, .f32⟩
  | 68 => ⟨S_, .f32⟩
  | 69 => ⟨S1, .f32⟩
  | 70 => ⟨S1x1, .f32⟩
  | 71 => ⟨S2x1, .f32⟩
  | 72 => ⟨S2x1, .f32⟩
  | 73 => ⟨S1x10000x64, .f32⟩
  | 74 => ⟨S1x10000x1, .f32⟩
  | 75 => ⟨S1x10000x64, .f32⟩
  | 76 => ⟨S1x10000x64, .f32⟩
  | 77 => ⟨S_, .f32⟩
  | 78 => ⟨S1x64, .f32⟩
  | 79 => ⟨S_, .f32⟩
  | 80 => ⟨S1, .f32⟩
  | 81 => ⟨S1x1, .f32⟩
  | 82 => ⟨S1x64, .f32⟩
  | 83 => ⟨S1x64, .f32⟩
  | 84 => ⟨S1x64, .f32⟩
  | 85 => ⟨S1x64, .f32⟩
  | 86 => ⟨S_, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S1x128x64, .f32⟩
  | 93 => ⟨S128x64, .f32⟩
  | 94 => ⟨S1x10000x64, .f32⟩
  | 95 => ⟨S1x10000x10000, .f32⟩
  | 96 => ⟨S10000x10000, .f32⟩
  | 97 => ⟨S1x64x10000, .f32⟩
  | 98 => ⟨S1x10000x64, .f32⟩
  | 99 => ⟨S1x64, .f32⟩
  | 100 => ⟨S64, .f32⟩
  | 101 => ⟨S1x1x64, .f32⟩
  | 102 => ⟨S1x10000x64, .f32⟩
  | 103 => ⟨S1x10000x64, .f32⟩
  | 104 => ⟨S_, .f32⟩
  | 105 => ⟨S1x10000x64, .f32⟩
  | 106 => ⟨S1x10000x64, .f32⟩
  | 107 => ⟨S1x128x64, .f32⟩
  | 108 => ⟨S128x64, .f32⟩
  | 109 => ⟨S1x10000x64, .f32⟩
  | 110 => ⟨S1x10000x10000, .f32⟩
  | 111 => ⟨S10000x10000, .f32⟩
  | 112 => ⟨S1x64x10000, .f32⟩
  | 113 => ⟨S1x10000x64, .f32⟩
  | 114 => ⟨S1x64, .f32⟩
  | 115 => ⟨S64, .f32⟩
  | 116 => ⟨S1x1x64, .f32⟩
  | 117 => ⟨S1x10000x64, .f32⟩
  | 118 => ⟨S1x10000x64, .f32⟩
  | 119 => ⟨S_, .f32⟩
  | 120 => ⟨S1x10000x64, .f32⟩
  | 121 => ⟨S1x10000x64, .f32⟩
  | 122 => ⟨S1x1x10000x64, .f32⟩
  | 123 => ⟨S1x1x10000x64, .f32⟩
  | 124 => ⟨S2x1x10000x64, .f32⟩
  | 125 => ⟨S2x1x10000x32, .f32⟩
  | 126 => ⟨S1x1x1x32, .f32⟩
  | 127 => ⟨S2x1x10000x32, .f32⟩
  | _ => ⟨S1x10000x128, .f32⟩

abbrev hbmTy0_1 (i : Nat) : BufTy := match i % 128 with
  | 0 => ⟨S2x1x10000x32, .f32⟩
  | 1 => ⟨S2x1x10000x32, .f32⟩
  | 2 => ⟨S1x1x1x32, .f32⟩
  | 3 => ⟨S2x1x10000x32, .f32⟩
  | 4 => ⟨S2x1x10000x32, .f32⟩
  | 5 => ⟨S_, .f32⟩
  | 6 => ⟨S2x1, .f32⟩
  | 7 => ⟨S_, .f32⟩
  | 8 => ⟨S2x1, .f32⟩
  | 9 => ⟨S2x1, .f32⟩
  | 10 => ⟨S_, .f32⟩
  | 11 => ⟨S1, .f32⟩
  | 12 => ⟨S_, .f32⟩
  | 13 => ⟨S1, .f32⟩
  | 14 => ⟨S1, .f32⟩
  | 15 => ⟨S1x1, .f32⟩
  | 16 => ⟨S2x1, .f32⟩
  | 17 => ⟨S2x1, .f32⟩
  | 18 => ⟨S2x1, .f32⟩
  | 19 => ⟨S_, .f32⟩
  | 20 => ⟨S1, .f32⟩
  | 21 => ⟨S1x1, .f32⟩
  | 22 => ⟨S2x1, .f32⟩
  | 23 => ⟨S2x1, .f32⟩
  | 24 => ⟨S1x10000x64, .f32⟩
  | 25 => ⟨S1x64, .f32⟩
  | 26 => ⟨S1x10000, .f32⟩
  | 27 => ⟨S1x10000, .f32⟩
  | 28 => ⟨S1x10000, .f32⟩
  | 29 => ⟨S1x10000, .f32⟩
  | 30 => ⟨S1x20000, .f32⟩
  | _ => ⟨S1x10000x128, .f32⟩

abbrev hbmTy (i : Nat) : BufTy := match i / 128 with
  | 0 => hbmTy0_0 i
  | 1 => hbmTy0_1 i
  | _ => ⟨S1x10000x128, .f32⟩

abbrev bufTy : (tb : Table) → Fin (tcTables nBuf tb) → BufTy
  | .hbm, ⟨i, _⟩ => hbmTy i
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_cst_0 : Ref sig .tc := ⟨.hbm, 56, rfl⟩
abbrev main_v38 : Ref sig .tc := ⟨.hbm, 57, rfl⟩
abbrev main_v39 : Ref sig .tc := ⟨.hbm, 58, rfl⟩
abbrev main_cst_1 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_6 : Ref sig .tc := ⟨.hbm, 86, rfl⟩
abbrev main_v62 : Ref sig .tc := ⟨.hbm, 87, rfl⟩
abbrev main_v63 : Ref sig .tc := ⟨.hbm, 88, rfl⟩
abbrev main_cst_7 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call2_cst : Ref sig .tc := ⟨.hbm, 104, rfl⟩
abbrev main_call2_v0 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call3_cst : Ref sig .tc := ⟨.hbm, 119, rfl⟩
abbrev main_call3_v0 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_8 : Ref sig .tc := ⟨.hbm, 133, rfl⟩
abbrev main_v103 : Ref sig .tc := ⟨.hbm, 134, rfl⟩
abbrev main_cst_9 : Ref sig .tc := ⟨.hbm, 135, rfl⟩
abbrev main_v104 : Ref sig .tc := ⟨.hbm, 136, rfl⟩
abbrev main_v105 : Ref sig .tc := ⟨.hbm, 137, rfl⟩
abbrev main_cst_10 : Ref sig .tc := ⟨.hbm, 138, rfl⟩
abbrev main_v106 : Ref sig .tc := ⟨.hbm, 139, rfl⟩
abbrev main_cst_11 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_12 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩

abbrev nD : Nat := 1
abbrev τ : Topo := Topo.v7x

variable {F : FTy → Type} [FloatOps F]
-- ==== Proof.Run.lean ====
/-
  THE KERNEL'S RUN, READ AT ITS RESULT. From any memory with zero counters @main ends with its result array `main_v16`
  at the contents the fold through the segments gives it (`Gen.W7`: the last stretch of host operations over region 2's
  exit contents), and with every argument array as launched. The launch is the frame's; here the final state is also
  read at the result.
-/
module

public import proofs.«01_k».proof.Proof.Gen.KernelIdeal.Frame

@[expose] public section

set_option maxRecDepth 16384

noncomputable section

namespace Cert.KernelIdeal.Gcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

-- the launch theorem's implicit arguments are found by unifying its conclusion with the one stated
set_option backward.isDefEq.respectTransparency.types false in
/-- Every weakly fair execution of @main ends with the result array at `W7` and the arguments as launched. -/
theorem result_run : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v16 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.Gcn

end
-- ==== Proof.Spec.lean ====
module

public import Idealize.ShloMosaic.Lib.Pointwise

/-!
# The network's mathematics, in plain sums over the extended reals

Two feature matrices (views) run through the same two graph convolutions (paths). Per view, the two
paths' hidden features are mixed by attention weights. View one is averaged over the masked nodes into
a context vector, and both views are scored against that context.

Nothing here mentions a kernel or a grid: node numbers, hidden columns and attention columns are plain
finite indices. Both programs are shown to compute `logit`.
-/

@[expose] public section

noncomputable section

namespace Cert.Gcn

open Idealize.ShloMosaic

/-- The hidden features of one path: a number per node and hidden column. -/
abbrev Feat := Fin 10000 → Fin 64 → EReal

/-- One graph convolution: project every node's features, add up the neighbours by the adjacency's
    weights, add the bias, and cut off below zero. -/
def hidden (X : Fin 10000 → Fin 128 → EReal) (W : Fin 128 → Fin 64 → EReal)
    (A : Fin 10000 → Fin 10000 → EReal) (b : Fin 64 → EReal) : Feat :=
  fun n k => max (∑ j, A n j * (∑ f, X j f * W f k) + b k) 0

/-- The attention score of one path: the query against the squashed projection, summed over all nodes
    and attention columns, over the number of nodes (ten thousand, kept as the float constant's value). -/
def score (Wa : Fin 64 → Fin 32 → EReal) (ba q : Fin 32 → EReal) (h : Feat) : EReal :=
  Ideal.div (∑ n, ∑ s, Ideal.tanh (∑ k, h n k * Wa k s + ba s) * q s) (Ideal.ofBits .f32 1176256512#32)

/-- The softmax weight of the score `u` among the two scores `s` and `t`. -/
def share (s t u : EReal) : EReal :=
  Ideal.div (Ideal.exp (u - max s t)) (Ideal.exp (s - max s t) + Ideal.exp (t - max s t))

/-- The two paths of one view, added up with their attention weights. -/
def mix (Wa : Fin 64 → Fin 32 → EReal) (ba q : Fin 32 → EReal) (h h' : Feat) : Feat := fun n k =>
  share (score Wa ba q h) (score Wa ba q h') (score Wa ba q h) * h n k
    + share (score Wa ba q h) (score Wa ba q h') (score Wa ba q h') * h' n k

/-- The context vector: the masked mean of a view's features over the nodes, squashed to (0, 1). -/
def context (msk : Fin 10000 → EReal) (M : Feat) : Fin 64 → EReal := fun k =>
  Ideal.logistic (Ideal.div (∑ n, M n k * msk n) (∑ n, msk n))

/-- A node's score against a context vector sent through the discriminator's matrix. -/
def against (Wd : Fin 64 → Fin 64 → EReal) (v : Fin 64 → EReal) (M : Feat) (n : Fin 10000) : EReal :=
  ∑ k, M n k * ∑ l, v l * Wd l k

/-- The whole network: the first ten thousand outputs score view one, the others view two. -/
def logit (X X' : Fin 10000 → Fin 128 → EReal) (A : Fin 2 → Fin 10000 → Fin 10000 → EReal)
    (msk bias bias' : Fin 10000 → EReal) (W : Fin 2 → Fin 128 → Fin 64 → EReal) (b : Fin 2 → Fin 64 → EReal)
    (Wa : Fin 64 → Fin 32 → EReal) (ba q : Fin 32 → EReal) (Wd : Fin 64 → Fin 64 → EReal)
    (v : Fin 2) (n : Fin 10000) : EReal :=
  let M := mix Wa ba q (hidden X (W 0) (A 0) (b 0)) (hidden X (W 1) (A 1) (b 1))
  let M' := mix Wa ba q (hidden X' (W 0) (A 0) (b 0)) (hidden X' (W 1) (A 1) (b 1))
  against Wd (context msk M) (if (v : ℕ) < 1 then M else M') n + if (v : ℕ) < 1 then bias n else bias' n

/-- The result row: view one's scores, then view two's. -/
def outputs (X X' : Fin 10000 → Fin 128 → EReal) (A : Fin 2 → Fin 10000 → Fin 10000 → EReal)
    (msk bias bias' : Fin 10000 → EReal) (W : Fin 2 → Fin 128 → Fin 64 → EReal) (b : Fin 2 → Fin 64 → EReal)
    (Wa : Fin 64 → Fin 32 → EReal) (ba q : Fin 32 → EReal) (Wd : Fin 64 → Fin 64 → EReal) (i : Fin 20000) : EReal :=
  logit X X' A msk bias bias' W b Wa ba q Wd ⟨i / 10000, by omega⟩ ⟨i % 10000, by omega⟩

end Cert.Gcn

end
-- ==== Proof.Pay.lean ====
module

public import proofs.«01_k».proof.Proof.Gen.KernelIdeal.Frame
public import proofs.«01_k».proof.Proof.Spec

/-!
# What one block of each launch computes

The stored blocks of the three launches, read at one position: the projection, one row block of a graph
convolution, and the attention-and-readout stage.
-/

@[expose] public section

set_option maxRecDepth 16384

noncomputable section

namespace Cert.KernelIdeal.Gcn

open Cert.KernelIdeal Cert.KernelIdeal.Gen Cert.Gcn
open Idealize.ShloMosaic

/-- View one's projection block: every node's features times the path's weights. -/
theorem pre1_at (W : FVec Ideal S1x128x64 .f32) (X : FVec Ideal S10000x128 .f32) (n : Fin 10000) (k : Fin 64) :
    k0_pay2 W X (ix3 0 n k) = ∑ f : Fin 128, X (ix2 n f) * W (ix3 0 f k) := by
  pointwise [k0_pay2, k0_pay1]

/-- View two's projection block, the same arithmetic. -/
theorem pre2_at (W : FVec Ideal S1x128x64 .f32) (X : FVec Ideal S10000x128 .f32) (n : Fin 10000) (k : Fin 64) :
    k0_pay3 W X (ix3 0 n k) = ∑ f : Fin 128, X (ix2 n f) * W (ix3 0 f k) := by
  pointwise [k0_pay3, k0_pay1]

/-- A row block of a graph convolution, both views side by side in the columns. -/
theorem gcn_at (A : FVec Ideal S1x400x10000 .f32) (Q : FVec Ideal S1x10000x128 .f32) (b : FVec Ideal S1x1x128 .f32)
    (r : Fin 400) (k : Fin 128) :
    k1_pay1 A Q b (ix3 0 r k) = max (∑ j : Fin 10000, A (ix3 0 r j) * Q (ix3 0 j k) + b (ix3 0 0 k)) 0 := by
  pointwise [k1_pay1]

/-- The left half of the hidden array's columns, view one's, at path `p`. -/
abbrev halfL (h : FVec Ideal S2x10000x128 .f32) (p : Fin 2) : Feat := fun n k => h (ix3 p n ⟨k, by omega⟩)

/-- The right half of the hidden array's columns, view two's, at path `p`. -/
abbrev halfR (h : FVec Ideal S2x10000x128 .f32) (p : Fin 2) : Feat := fun n k => h (ix3 p n ⟨64 + k, by omega⟩)

/-- A matrix over an array of rank two. -/
abbrev mat {a b : ℕ} (M : FVec Ideal ⟨2, ![a, b]⟩ .f32) : Fin a → Fin b → EReal := fun i j => M (ix2 i j)

/-- The row of a one-row array. -/
abbrev row {b : ℕ} (M : FVec Ideal ⟨2, ![1, b]⟩ .f32) : Fin b → EReal := fun j => M (ix2 0 j)

/-- View one, path one: the attention score. -/
theorem score1a_at (h : FVec Ideal S2x10000x128 .f32) (Wa : FVec Ideal S64x32 .f32) (ba q : FVec Ideal S1x32 .f32) :
    k2_pay9 (F := Ideal) h Wa ba q = score (mat Wa) (row ba) (row q) (halfL h 0) := by
  pointwise [k2_pay9, k2_pay3, k2_pay2, k2_pay7, k2_pay8]
  rfl

/-- View one, path two: the attention score. -/
theorem score1b_at (h : FVec Ideal S2x10000x128 .f32) (Wa : FVec Ideal S64x32 .f32) (ba q : FVec Ideal S1x32 .f32) :
    k2_pay10 (F := Ideal) h Wa ba q = score (mat Wa) (row ba) (row q) (halfL h 1) := by
  pointwise [k2_pay10, k2_pay4, k2_pay2, k2_pay7, k2_pay8]
  rfl

/-- View one: the two paths mixed. -/
theorem mix1_at (h : FVec Ideal S2x10000x128 .f32) (Wa : FVec Ideal S64x32 .f32) (ba q : FVec Ideal S1x32 .f32)
    (n : Fin 10000) (k : Fin 64) :
    k2_pay13 (F := Ideal) (k2_pay3 h) (k2_pay4 h) (k2_pay10 (F := Ideal) h Wa ba q) (k2_pay11 (F := Ideal) h Wa ba q)
        (k2_pay12 (F := Ideal) h Wa ba q) (ix2 n k)
      = mix (mat Wa) (row ba) (row q) (halfL h 0) (halfL h 1) n k := by
  unfold k2_pay12 k2_pay11
  rw [score1a_at, score1b_at]
  unfold mix
  generalize score (mat Wa) (row ba) (row q) (halfL h 0) = s
  generalize score (mat Wa) (row ba) (row q) (halfL h 1) = t
  pointwise [k2_pay13, k2_pay3, k2_pay4, k2_pay2]
  rfl

/-- View two: the two paths mixed. -/
theorem mix2_at (h : FVec Ideal S2x10000x128 .f32) (Wa : FVec Ideal S64x32 .f32) (ba q : FVec Ideal S1x32 .f32)
    (n : Fin 10000) (k : Fin 64) :
    k2_pay14 (F := Ideal) (k2_pay5 h) (k2_pay6 h) Wa (k2_pay7 ba) (k2_pay8 q) (ix2 n k)
      = mix (mat Wa) (row ba) (row q) (halfR h 0) (halfR h 1) n k := by
  pointwise [k2_pay14, k2_pay5, k2_pay6, k2_pay2, k2_pay7, k2_pay8]
  rfl

/-- The mask column as loaded. -/
theorem mask_at (ms : FVec Ideal S10000x1 .f32) (n : Fin 10000) (u : Fin 1) :
    k2_pay15 (F := Ideal) ms (ix2 n u) = ms (ix2 n 0) := by
  obtain rfl : u = 0 := Subsingleton.elim _ _
  pointwise [k2_pay15]

/-- The mask column repeated along the hidden columns. -/
theorem maskw_at (ms : FVec Ideal S10000x1 .f32) (n : Fin 10000) (k : Fin 64) :
    k2_pay16 (F := Ideal) ms (ix2 n k) = ms (ix2 n 0) := by
  pointwise [k2_pay16, k2_pay15]

/-- The readout over any mask arrays: a view's scores against view one's context, plus the bias column. -/
theorem out_raw (a b : FVec Ideal S10000x64 .f32) (ms : FVec Ideal S10000x1 .f32) (mb : FVec Ideal S10000x64 .f32)
    (wd : FVec Ideal S64x64 .f32) (bi : FVec Ideal S10000x2 .f32) (n : Fin 10000) (v : Fin 2) :
    k2_pay1 a b ms mb wd bi (ix2 n v)
      = (if (v : ℕ) < 1 then
          ∑ k, a (ix2 n k) * ∑ l, Ideal.logistic (Ideal.div (∑ x, a (ix2 x l) * mb (ix2 x l)) (∑ x, ∑ _u : Fin 1, ms (ix2 x 0)))
            * wd (ix2 l k)
        else
          ∑ k, b (ix2 n k) * ∑ l, Ideal.logistic (Ideal.div (∑ x, a (ix2 x l) * mb (ix2 x l)) (∑ x, ∑ _u : Fin 1, ms (ix2 x 0)))
            * wd (ix2 l k)) + bi (ix2 n v) := by
  pointwise [k2_pay1]
  by_cases h : (v : ℕ) < 1
  · rw [dif_pos h, if_pos h]
  · rw [dif_neg h, if_neg h]

/-- The readout: a view's scores against view one's context, plus the bias column. -/
theorem out_at (a b : FVec Ideal S10000x64 .f32) (ms : FVec Ideal S10000x1 .f32) (wd : FVec Ideal S64x64 .f32)
    (bi : FVec Ideal S10000x2 .f32) (n : Fin 10000) (v : Fin 2) :
    k2_pay1 (F := Ideal) a b (k2_pay15 ms) (k2_pay16 ms) wd bi (ix2 n v)
      = against (mat wd) (context (fun n => ms (ix2 n 0)) (mat a)) (if (v : ℕ) < 1 then mat a else mat b) n + bi (ix2 n v) := by
  rw [out_raw]
  simp only [mask_at, maskw_at, Fin.sum_univ_one]
  by_cases h : (v : ℕ) < 1
  · rw [if_pos h, if_pos h]; rfl
  · rw [if_neg h, if_neg h]; rfl

end Cert.KernelIdeal.Gcn

end
-- ==== Proof.Regions.lean ====
module

public import proofs.«01_k».proof.Proof.Pay
public import Idealize.ShloMosaic.Lib.Pipeline.ValueKit

/-!
# What each launch leaves in its output array

The three output arrays as functions of the arrays the launches read.
-/

@[expose] public section

set_option maxRecDepth 16384

noncomputable section

namespace Cert.KernelIdeal.Gcn

open Cert.KernelIdeal Cert.KernelIdeal.Gen Cert.Gcn
open Idealize.ShloMosaic Idealize.ShloMosaic.TcCoe Idealize.SL.Sem
open Idealize.ShloMosaic.Pipeline (Dat)

/-- Both views' projections, view one in the columns below 64, view two in the others. -/
def projected (X X' : FVec Ideal S10000x128 .f32) (W : FVec Ideal S2x128x64 .f32) : FVec Ideal S2x10000x128 .f32 := fun i =>
  if h : (i 2 : ℕ) < 64 then ∑ f : Fin 128, X (ix2 (i 1) f) * W (ix3 (i 0) f ⟨i 2, h⟩)
  else ∑ f : Fin 128, X' (ix2 (i 1) f) * W (ix3 (i 0) f ⟨i 2 - 64, by have := (i 2).isLt; change (i 2 : ℕ) < 128 at this; omega⟩)

/-- Both views' hidden features on both paths. -/
def convolved (A : FVec Ideal S2x10000x10000 .f32) (Q : FVec Ideal S2x10000x128 .f32) (b : FVec Ideal S2x1x128 .f32) :
    FVec Ideal S2x10000x128 .f32 := fun i =>
  max (∑ j : Fin 10000, A (ix3 (i 0) (i 1) j) * Q (ix3 (i 0) j (i 2)) + b (ix3 (i 0) 0 (i 2))) 0

/-- Both views' scores, one column each. -/
def scored (H : FVec Ideal S2x10000x128 .f32) (Wa : FVec Ideal S64x32 .f32) (ba q : FVec Ideal S1x32 .f32)
    (ms : FVec Ideal S10000x1 .f32) (bi : FVec Ideal S10000x2 .f32) (wd : FVec Ideal S64x64 .f32) : FVec Ideal S10000x2 .f32 := fun i =>
  against (mat wd) (context (fun n => ms (ix2 n 0)) (mix (mat Wa) (row ba) (row q) (halfL H 0) (halfL H 1)))
    (if (i 1 : ℕ) < 1 then mix (mat Wa) (row ba) (row q) (halfL H 0) (halfL H 1)
      else mix (mat Wa) (row ba) (row q) (halfR H 0) (halfR H 1)) (i 0) + bi (ix2 (i 0) (i 1))

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![t.val, 0, 0]
    ∧ win0_3.index t = ![t.val, 0, 0] :=
  (by decide +kernel : ∀ t : Fin grid0.N, _)

theorem idx1 : ∀ t : Fin cfg1.N, win1_0.index t = ![t.val / 25, t.val % 25, 0] ∧ win1_1.index t = ![t.val / 25, 0, 0]
    ∧ win1_2.index t = ![t.val / 25, 0, 0] ∧ win1_3.index t = ![t.val / 25, t.val % 25, 0] :=
  (by decide +kernel : ∀ t : Fin grid1.N, _)

theorem idx2 : ∀ t : Fin cfg2.N, win2_0.index t = ![0, 0, 0] ∧ win2_1.index t = ![0, 0] ∧ win2_2.index t = ![0, 0]
    ∧ win2_3.index t = ![0, 0] ∧ win2_4.index t = ![0, 0] ∧ win2_5.index t = ![0, 0] ∧ win2_6.index t = ![0, 0]
    ∧ win2_7.index t = ![0, 0] :=
  (by decide +kernel : ∀ t : Fin grid2.N, _)

/-- The convolution launch: its output array is `convolved` of the arrays it reads. -/
theorem array1 (c : Dev nD) : (dat1 V c).arrAt 3 cfg1.N = convolved (V c main_arg2) (V c main_v2) (V c main_v4) := by
  refine (dat1 V c).arrAt_eq_of_covers 3 _ (by decide +kernel) fun t hf y => ?_
  blk_simp
  rw [after1_3]; frame_out
  pointwise [k1_pay1, convolved]
  blk_point [iblk1, idx1 t]

/-- The projections in the columns below 64. -/
theorem projected_lo (X X' : FVec Ideal S10000x128 .f32) (W : FVec Ideal S2x128x64 .f32) (i : S2x10000x128.Idx) (k : Fin 64)
    (h : (i 2 : ℕ) = k) : projected X X' W i = ∑ f : Fin 128, X (ix2 (i 1) f) * W (ix3 (i 0) f k) := by
  have hi : (i 2 : ℕ) < 64 := h ▸ k.isLt
  have hk : (⟨i 2, hi⟩ : Fin 64) = k := Fin.ext h
  unfold projected
  rw [dif_pos hi, hk]

/-- The projections in the columns from 64 on. -/
theorem projected_hi (X X' : FVec Ideal S10000x128 .f32) (W : FVec Ideal S2x128x64 .f32) (i : S2x10000x128.Idx) (k : Fin 64)
    (h : (i 2 : ℕ) = 64 + k) : projected X X' W i = ∑ f : Fin 128, X' (ix2 (i 1) f) * W (ix3 (i 0) f k) := by
  have hi : ¬(i 2 : ℕ) < 64 := by omega
  have hk : (⟨i 2 - 64, by have := (i 2).isLt; change (i 2 : ℕ) < 128 at this; omega⟩ : Fin 64) = k := Fin.ext (by simp only [h]; omega)
  unfold projected
  rw [dif_neg hi, hk]

/-- The projection launch: its output array is `projected` of the arrays it reads. -/
theorem array0 (c : Dev nD) : (dat0 V c).arrAt 3 cfg0.N = projected (V c main_v0) (V c main_v1) (V c main_arg7) := by
  refine (dat0 V c).arrAt_eq_of_covers 3 _ (by decide +kernel) fun t hf y => ?_
  blk_simp
  rw [after0_3]
  canon_tiles x h
  · refine Eq.trans ?_ (projected_hi _ _ _ _ (x 2) ?_).symm
    · pointwise [k0_pay3, k0_pay1]
      blk_point [iblk0, idx0 t]
    · blk_simp [idx0 t] <;> try omega
  · refine Eq.trans ?_ (projected_lo _ _ _ _ (x 2) ?_).symm
    · pointwise [k0_pay2, k0_pay1]
      blk_point [iblk0, idx0 t]
    · blk_simp [idx0 t] <;> try omega

/-- The last launch's block at one position. -/
theorem scored_at (H : FVec Ideal S2x10000x128 .f32) (Wa : FVec Ideal S64x32 .f32) (ba q : FVec Ideal S1x32 .f32)
    (ms : FVec Ideal S10000x1 .f32) (bi : FVec Ideal S10000x2 .f32) (wd : FVec Ideal S64x64 .f32) (n : Fin 10000) (v : Fin 2) :
    k2_pay1 (F := Ideal)
      (k2_pay13 (k2_pay3 H) (k2_pay4 H) (k2_pay10 H Wa ba q) (k2_pay11 H Wa ba q) (k2_pay12 H Wa ba q))
      (k2_pay14 (k2_pay5 H) (k2_pay6 H) Wa (k2_pay7 ba) (k2_pay8 q)) (k2_pay15 ms) (k2_pay16 ms) wd bi (ix2 n v)
      = scored H Wa ba q ms bi wd (ix2 n v) := by
  rw [out_at]
  have e1 : mat (k2_pay13 (F := Ideal) (k2_pay3 H) (k2_pay4 H) (k2_pay10 H Wa ba q) (k2_pay11 H Wa ba q) (k2_pay12 H Wa ba q))
      = mix (mat Wa) (row ba) (row q) (halfL H 0) (halfL H 1) := funext₂ fun n k => mix1_at H Wa ba q n k
  have e2 : mat (k2_pay14 (F := Ideal) (k2_pay5 H) (k2_pay6 H) Wa (k2_pay7 ba) (k2_pay8 q))
      = mix (mat Wa) (row ba) (row q) (halfR H 0) (halfR H 1) := funext₂ fun n k => mix2_at H Wa ba q n k
  rw [e1, e2]
  rfl

/-- The last launch: its output array is `scored` of the arrays it reads. -/
theorem array2 (c : Dev nD) : (dat2 V c).arrAt 7 cfg2.N = scored (V c main_v5) (V c main_arg9) (V c main_v12) (V c main_v13)
    (V c main_v6) (V c main_v11) (V c main_arg12) := by
  have e0 : iblk2 V c 0 t2_0 = V c main_v5 := by blk_ext! [iblk2, idx2 t2_0]
  have e1 : iblk2 V c 1 t2_0 = V c main_arg9 := by blk_ext! [iblk2, idx2 t2_0]
  have e2 : iblk2 V c 2 t2_0 = V c main_v12 := by blk_ext! [iblk2, idx2 t2_0]
  have e3 : iblk2 V c 3 t2_0 = V c main_v13 := by blk_ext! [iblk2, idx2 t2_0]
  have e4 : iblk2 V c 4 t2_0 = V c main_v6 := by blk_ext! [iblk2, idx2 t2_0]
  have e5 : iblk2 V c 5 t2_0 = V c main_v11 := by blk_ext! [iblk2, idx2 t2_0]
  have e6 : iblk2 V c 6 t2_0 = V c main_arg12 := by blk_ext! [iblk2, idx2 t2_0]
  refine (dat2 V c).arrAt_eq_of_after_last 7 t2_0 (by decide +kernel) _ fun j => ?_
  blk_simp
  rw [after2_7]; frame_out
  rw [e0, e1, e2, e3, e4, e5, e6]
  obtain ⟨n, v, rfl⟩ : ∃ (n : Fin 10000) (v : Fin 2), j = ix2 n v := ⟨j 0, j 1, by blk_ext⟩
  exact scored_at _ _ _ _ _ _ _ n v

end Cert.KernelIdeal.Gcn

end
-- ==== Proof.HostReads.lean ====
module

public import proofs.«01_k».proof.Proof.Gen.KernelIdeal.Frame
public import Idealize.ShloMosaic.Lib.Pointwise
public import Idealize.ShloMosaic.Lib.StableHlo.ReadAt

/-!
# The arrays between the launches

The host operations before, between and after the launches only move entries. Each array they write, read
at one position, is an entry of an array they found.
-/

@[expose] public section

set_option maxRecDepth 16384

noncomputable section

namespace Cert.KernelIdeal.Gcn

open Cert.KernelIdeal Cert.KernelIdeal.Gen
open Idealize.ShloMosaic Idealize.ShloMosaic.TcCoe Idealize.SL.Sem

variable (W : Valuation τ sig (Elt Ideal))

/-- View one's features as a matrix. -/
theorem v0_at (n : Fin 10000) (f : Fin 128) :
    (StableHlo.after hostOps0 W (Proc.devRef .tc main_v0) : FVec Ideal S10000x128 .f32) (ix2 n f)
      = (W (Proc.devRef .tc main_arg0) : FVec Ideal S1x10000x128 .f32) (ix3 0 n f) := by
  after_reads_at

/-- View two's features as a matrix. -/
theorem v1_at (n : Fin 10000) (f : Fin 128) :
    (StableHlo.after hostOps0 W (Proc.devRef .tc main_v1) : FVec Ideal S10000x128 .f32) (ix2 n f)
      = (W (Proc.devRef .tc main_arg1) : FVec Ideal S1x10000x128 .f32) (ix3 0 n f) := by
  after_reads_at

/-- The biases, once for view one's columns and once more for view two's. -/
theorem v4_at (p : Fin 2) (k : Fin 128) :
    (StableHlo.after hostOps1 W (Proc.devRef .tc main_v4) : FVec Ideal S2x1x128 .f32) (ix3 p 0 k)
      = (W (Proc.devRef .tc main_arg8) : FVec Ideal S2x64 .f32) (ix2 p ⟨k % 64, by omega⟩) := by
  after_reads_at
  by_cases h : (k : ℕ) < 64
  · have e : (⟨k % 64, by omega⟩ : Fin 64) = ⟨k, h⟩ := Fin.ext (Nat.mod_eq_of_lt h)
    rw [dif_pos h, e]; rfl
  · have e : (⟨k % 64, by omega⟩ : Fin 64) = ⟨k - 64, by omega⟩ := Fin.ext (by simp only []; omega)
    rw [dif_neg h, e]; rfl

/-- The mask as a column. -/
theorem v6_at (n : Fin 10000) :
    (StableHlo.after hostOps2 W (Proc.devRef .tc main_v6) : FVec Ideal S10000x1 .f32) (ix2 n 0)
      = (W (Proc.devRef .tc main_arg4) : FVec Ideal S1x10000 .f32) (ix2 0 n) := by
  after_reads_at

/-- The views' score biases, a column each. -/
theorem v11_at (n : Fin 10000) (v : Fin 2) :
    (StableHlo.after hostOps2 W (Proc.devRef .tc main_v11) : FVec Ideal S10000x2 .f32) (ix2 n v)
      = if (v : ℕ) < 1 then (W (Proc.devRef .tc main_arg5) : FVec Ideal S1x10000 .f32) (ix2 0 n)
        else (W (Proc.devRef .tc main_arg6) : FVec Ideal S1x10000 .f32) (ix2 0 n) := by
  after_reads_at
  by_cases h : (v : ℕ) < 1
  · rw [dif_pos h, if_pos h]
  · rw [dif_neg h, if_neg h]

/-- The attention bias as a row. -/
theorem v12_at (s : Fin 32) :
    (StableHlo.after hostOps2 W (Proc.devRef .tc main_v12) : FVec Ideal S1x32 .f32) (ix2 0 s)
      = (W (Proc.devRef .tc main_arg10) : FVec Ideal S32 .f32) (ix1 s) := by
  after_reads_at

/-- The attention query as a row. -/
theorem v13_at (s : Fin 32) :
    (StableHlo.after hostOps2 W (Proc.devRef .tc main_v13) : FVec Ideal S1x32 .f32) (ix2 0 s)
      = (W (Proc.devRef .tc main_arg11) : FVec Ideal S32 .f32) (ix1 s) := by
  after_reads_at

/-- The result: column one of the scores, then column two. -/
theorem v16_at (i : Fin 20000) :
    (StableHlo.after hostOps3 W (Proc.devRef .tc main_v16) : FVec Ideal S1x20000 .f32) (ix2 0 i)
      = (W (Proc.devRef .tc main_v14) : FVec Ideal S10000x2 .f32) (ix2 ⟨i % 10000, by omega⟩ ⟨i / 10000, by omega⟩) := by
  after_reads_at

end Cert.KernelIdeal.Gcn

end
-- ==== Proof.KernelValue.lean ====
module

public import proofs.«01_k».proof.Proof.Regions
public import proofs.«01_k».proof.Proof.HostReads

/-!
# What the kernel computes

The launches' arrays chained through the host operations between them: every entry of the kernel's result
is the specification's, over the arguments at launch.
-/

@[expose] public section

set_option maxRecDepth 16384

noncomputable section

namespace Cert.KernelIdeal.Gcn

open Cert.KernelIdeal Cert.KernelIdeal.Gen Cert.Gcn
open Idealize.ShloMosaic Idealize.ShloMosaic.TcCoe Idealize.SL.Sem

variable (m : (ℓ : Loc nD τ sig) → Buf (Elt Ideal) ℓ) (ρ : Dev nD → PrngReg) (c : Dev nD)

/-! ### The arguments, at their literal types -/

abbrev X1 : FVec Ideal S1x10000x128 .f32 := m ((c : Thread nD τ).loc main_arg0)
abbrev X2 : FVec Ideal S1x10000x128 .f32 := m ((c : Thread nD τ).loc main_arg1)
abbrev Adj : FVec Ideal S2x10000x10000 .f32 := m ((c : Thread nD τ).loc main_arg2)
abbrev Msk : FVec Ideal S1x10000 .f32 := m ((c : Thread nD τ).loc main_arg4)
abbrev B1 : FVec Ideal S1x10000 .f32 := m ((c : Thread nD τ).loc main_arg5)
abbrev B2 : FVec Ideal S1x10000 .f32 := m ((c : Thread nD τ).loc main_arg6)
abbrev Wg : FVec Ideal S2x128x64 .f32 := m ((c : Thread nD τ).loc main_arg7)
abbrev Bg : FVec Ideal S2x64 .f32 := m ((c : Thread nD τ).loc main_arg8)
abbrev Watt : FVec Ideal S64x32 .f32 := m ((c : Thread nD τ).loc main_arg9)
abbrev Batt : FVec Ideal S32 .f32 := m ((c : Thread nD τ).loc main_arg10)
abbrev Qatt : FVec Ideal S32 .f32 := m ((c : Thread nD τ).loc main_arg11)
abbrev Wdisc : FVec Ideal S64x64 .f32 := m ((c : Thread nD τ).loc main_arg12)

/-! ### The projections -/

/-- View one's projection, in the left columns. -/
theorem pre_lo (p : Fin 2) (j : Fin 10000) (k : Fin 64) :
    (V3 m ρ c main_v2 : FVec Ideal S2x10000x128 .f32) (ix3 p j ⟨k, by omega⟩)
      = ∑ f : Fin 128, X1 m c (ix3 0 j f) * Wg m c (ix3 p f k) := by
  have e : (V3 m ρ c main_v2 : FVec Ideal S2x10000x128 .f32)
      = projected (V1 m ρ c main_v0) (V1 m ρ c main_v1) (V1 m ρ c main_arg7) :=
    (W3_of m ρ c main_v2 (by decide)).trans ((W2_arr m ρ c 3).trans (array0 (V1 m ρ) c))
  rw [e, projected_lo _ _ _ _ k rfl]
  have e7 : (V1 m ρ c main_arg7 : FVec Ideal S2x128x64 .f32) = Wg m c := W1_args m ρ c main_arg7 (by decide)
  rw [e7]
  refine Fin.sum_fin_congr fun f => ?_
  exact congrArg (fun x : EReal => x * Wg m c (ix3 p f k)) (v0_at (W0 m ρ c) j f)

/-- View two's projection, in the right columns. -/
theorem pre_hi (p : Fin 2) (j : Fin 10000) (k : Fin 64) :
    (V3 m ρ c main_v2 : FVec Ideal S2x10000x128 .f32) (ix3 p j ⟨64 + k, by omega⟩)
      = ∑ f : Fin 128, X2 m c (ix3 0 j f) * Wg m c (ix3 p f k) := by
  have e : (V3 m ρ c main_v2 : FVec Ideal S2x10000x128 .f32)
      = projected (V1 m ρ c main_v0) (V1 m ρ c main_v1) (V1 m ρ c main_arg7) :=
    (W3_of m ρ c main_v2 (by decide)).trans ((W2_arr m ρ c 3).trans (array0 (V1 m ρ) c))
  rw [e, projected_hi _ _ _ _ k rfl]
  have e7 : (V1 m ρ c main_arg7 : FVec Ideal S2x128x64 .f32) = Wg m c := W1_args m ρ c main_arg7 (by decide)
  rw [e7]
  refine Fin.sum_fin_congr fun f => ?_
  exact congrArg (fun x : EReal => x * Wg m c (ix3 p f k)) (v1_at (W0 m ρ c) j f)

/-! ### The hidden features -/

/-- The hidden array the last launch reads. -/
theorem hidden_array : (V5 m ρ c main_v5 : FVec Ideal S2x10000x128 .f32)
    = convolved (V3 m ρ c main_arg2) (V3 m ρ c main_v2) (V3 m ρ c main_v4) :=
  (W5_of m ρ c main_v5 (by decide)).trans ((W4_arr m ρ c 3).trans (array1 (V3 m ρ) c))

/-- View one's hidden features on path `p`. -/
theorem hidden_lo (p : Fin 2) : halfL (V5 m ρ c main_v5) p
    = Cert.Gcn.hidden (fun n f => X1 m c (ix3 0 n f)) (fun f k => Wg m c (ix3 p f k)) (fun i j => Adj m c (ix3 p i j))
        (fun k => Bg m c (ix2 p k)) := by
  have e2 : (V3 m ρ c main_arg2 : FVec Ideal S2x10000x10000 .f32) = Adj m c := W3_args m ρ c main_arg2 (by decide)
  have e8 : (W2 m ρ c (Proc.devRef .tc main_arg8) : FVec Ideal S2x64 .f32) = Bg m c := W2_args m ρ c main_arg8 (by decide)
  funext n k
  show (V5 m ρ c main_v5 : FVec Ideal S2x10000x128 .f32) (ix3 p n ⟨k, by omega⟩) = _
  rw [hidden_array, e2]
  refine congrArg₂ (fun s t : EReal => max (s + t) 0) (Finset.sum_congr rfl fun j _ => congrArg (_ * ·) (pre_lo m ρ c p j k)) ?_
  refine (v4_at (W2 m ρ c) p _).trans ?_
  rw [e8]
  exact congrArg (fun l => Bg m c (ix2 p l)) (Fin.ext (Nat.mod_eq_of_lt k.isLt))

/-- View two's hidden features on path `p`. -/
theorem hidden_hi (p : Fin 2) : halfR (V5 m ρ c main_v5) p
    = Cert.Gcn.hidden (fun n f => X2 m c (ix3 0 n f)) (fun f k => Wg m c (ix3 p f k)) (fun i j => Adj m c (ix3 p i j))
        (fun k => Bg m c (ix2 p k)) := by
  have e2 : (V3 m ρ c main_arg2 : FVec Ideal S2x10000x10000 .f32) = Adj m c := W3_args m ρ c main_arg2 (by decide)
  have e8 : (W2 m ρ c (Proc.devRef .tc main_arg8) : FVec Ideal S2x64 .f32) = Bg m c := W2_args m ρ c main_arg8 (by decide)
  funext n k
  show (V5 m ρ c main_v5 : FVec Ideal S2x10000x128 .f32) (ix3 p n ⟨64 + k, by omega⟩) = _
  rw [hidden_array, e2]
  refine congrArg₂ (fun s t : EReal => max (s + t) 0) (Finset.sum_congr rfl fun j _ => congrArg (_ * ·) (pre_hi m ρ c p j k)) ?_
  refine (v4_at (W2 m ρ c) p _).trans ?_
  rw [e8]
  exact congrArg (fun l => Bg m c (ix2 p l)) (Fin.ext (show (64 + (k : ℕ)) % 64 = k by omega))

/-! ### The scores -/

/-- The last launch's array at one position: the specification's score. -/
theorem scores_at (n : Fin 10000) (v : Fin 2) :
    (W6 m ρ c (Proc.devRef .tc main_v14) : FVec Ideal S10000x2 .f32) (ix2 n v)
      = logit (fun n f => X1 m c (ix3 0 n f)) (fun n f => X2 m c (ix3 0 n f)) (fun p i j => Adj m c (ix3 p i j))
          (fun n => Msk m c (ix2 0 n)) (fun n => B1 m c (ix2 0 n)) (fun n => B2 m c (ix2 0 n)) (fun p f k => Wg m c (ix3 p f k))
          (fun p k => Bg m c (ix2 p k)) (fun k s => Watt m c (ix2 k s)) (fun s => Batt m c (ix1 s)) (fun s => Qatt m c (ix1 s))
          (fun l k => Wdisc m c (ix2 l k)) v n := by
  have e : (W6 m ρ c (Proc.devRef .tc main_v14) : FVec Ideal S10000x2 .f32)
      = scored (V5 m ρ c main_v5) (V5 m ρ c main_arg9) (V5 m ρ c main_v12) (V5 m ρ c main_v13) (V5 m ρ c main_v6)
          (V5 m ρ c main_v11) (V5 m ρ c main_arg12) := (W6_arr m ρ c 7).trans (array2 (V5 m ρ) c)
  have e9 : (V5 m ρ c main_arg9 : FVec Ideal S64x32 .f32) = Watt m c := W5_args m ρ c main_arg9 (by decide)
  have e12 : (V5 m ρ c main_arg12 : FVec Ideal S64x64 .f32) = Wdisc m c := W5_args m ρ c main_arg12 (by decide)
  have a4 : (W4 m ρ c (Proc.devRef .tc main_arg4) : FVec Ideal S1x10000 .f32) = Msk m c := W4_args m ρ c main_arg4 (by decide)
  have a5 : (W4 m ρ c (Proc.devRef .tc main_arg5) : FVec Ideal S1x10000 .f32) = B1 m c := W4_args m ρ c main_arg5 (by decide)
  have a6 : (W4 m ρ c (Proc.devRef .tc main_arg6) : FVec Ideal S1x10000 .f32) = B2 m c := W4_args m ρ c main_arg6 (by decide)
  have a10 : (W4 m ρ c (Proc.devRef .tc main_arg10) : FVec Ideal S32 .f32) = Batt m c := W4_args m ρ c main_arg10 (by decide)
  have a11 : (W4 m ρ c (Proc.devRef .tc main_arg11) : FVec Ideal S32 .f32) = Qatt m c := W4_args m ρ c main_arg11 (by decide)
  have eb : row (V5 m ρ c main_v12) = fun s => Batt m c (ix1 s) :=
    funext fun s => (v12_at (W4 m ρ c) s).trans (congrArg (fun T : FVec Ideal S32 .f32 => T (ix1 s)) a10)
  have eq : row (V5 m ρ c main_v13) = fun s => Qatt m c (ix1 s) :=
    funext fun s => (v13_at (W4 m ρ c) s).trans (congrArg (fun T : FVec Ideal S32 .f32 => T (ix1 s)) a11)
  have em : (fun n => (V5 m ρ c main_v6 : FVec Ideal S10000x1 .f32) (ix2 n 0)) = fun n => Msk m c (ix2 0 n) :=
    funext fun n => (v6_at (W4 m ρ c) n).trans (congrArg (fun T : FVec Ideal S1x10000 .f32 => T (ix2 0 n)) a4)
  have ev : (V5 m ρ c main_v11 : FVec Ideal S10000x2 .f32) (ix2 n v)
      = if (v : ℕ) < 1 then B1 m c (ix2 0 n) else B2 m c (ix2 0 n) := by
    refine (v11_at (W4 m ρ c) n v).trans ?_
    rw [a5, a6]
  rw [e, e9, e12]
  show against _ (context (fun n => (V5 m ρ c main_v6 : FVec Ideal S10000x1 .f32) (ix2 n 0))
      (mix _ (row (V5 m ρ c main_v12)) (row (V5 m ρ c main_v13)) (halfL (V5 m ρ c main_v5) 0) (halfL (V5 m ρ c main_v5) 1)))
    (if (v : ℕ) < 1 then mix _ (row (V5 m ρ c main_v12)) (row (V5 m ρ c main_v13)) (halfL (V5 m ρ c main_v5) 0) (halfL (V5 m ρ c main_v5) 1)
      else mix _ (row (V5 m ρ c main_v12)) (row (V5 m ρ c main_v13)) (halfR (V5 m ρ c main_v5) 0) (halfR (V5 m ρ c main_v5) 1)) n
    + (V5 m ρ c main_v11 : FVec Ideal S10000x2 .f32) (ix2 n v) = _
  rw [em, eb, eq, hidden_lo, hidden_lo, hidden_hi, hidden_hi, ev]
  rfl

/-- Every entry of the kernel's result. -/
theorem result_at (i : Fin 20000) :
    (W7 m ρ c (Proc.devRef .tc main_v16) : FVec Ideal S1x20000 .f32) (ix2 0 i)
      = outputs (fun n f => X1 m c (ix3 0 n f)) (fun n f => X2 m c (ix3 0 n f)) (fun p i j => Adj m c (ix3 p i j))
          (fun n => Msk m c (ix2 0 n)) (fun n => B1 m c (ix2 0 n)) (fun n => B2 m c (ix2 0 n)) (fun p f k => Wg m c (ix3 p f k))
          (fun p k => Bg m c (ix2 p k)) (fun k s => Watt m c (ix2 k s)) (fun s => Batt m c (ix1 s)) (fun s => Qatt m c (ix1 s))
          (fun l k => Wdisc m c (ix2 l k)) i :=
  (v16_at (W6 m ρ c) i).trans (scores_at m ρ c _ _)

end Cert.KernelIdeal.Gcn

end
-- ==== Proof.RefParts.lean ====
module

public import proofs.«01_k».proof.Proof.Gen.ReferenceIdeal.Run
public import proofs.«01_k».proof.Proof.Spec

/-!
# The reference, stage by stage

The reference's composed term, cut into its stages: a graph convolution per path, the two paths stacked,
their attention scores, the softmax weights, the mixed features, the context vector and the scores. Each
stage is an array operation of the earlier stages; the whole term is their composition.
-/

@[expose] public section

set_option maxRecDepth 16384

noncomputable section

namespace Cert.ReferenceIdeal.Gcn

open Cert.ReferenceIdeal Cert.ReferenceIdeal.Gen
open Idealize.ShloMosaic Idealize.ShloMosaic.TcCoe Idealize.SL.Sem

/-- Path one's convolution of a view. -/
def convA (X : FVec Ideal S1x10000x128 .f32) (A : FVec Ideal S2x10000x10000 .f32) (W : FVec Ideal S2x128x64 .f32)
    (b : FVec Ideal S2x64 .f32) : FVec Ideal S1x1x10000x64 .f32 :=
  broadcastInDim S1x1x10000x64 ![1, 2, 3] bcast_S1x10000x64_S1x1x10000x64_1_2_3 (maximumf (addf
    (transpose S1x10000x64 [0, 2, 1]
      (Host.dotGeneral dot_S1x10000x64_S10000x10000_S1x64x10000_1_1_02_0_n_n none
        (Host.dotGeneral dot_S1x10000x128_S128x64_S1x10000x64_2_0_01_1_n_n none X
          (shapeCast _ (extractStridedSlice S1x128x64 ![0, 0, 0] W slices_S2x128x64_S1x128x64_0_0_0) shapeCasts_S1x128x64_S128x64))
        (shapeCast _ (extractStridedSlice S1x10000x10000 ![0, 0, 0] A slices_S2x10000x10000_S1x10000x10000_0_0_0)
          shapeCasts_S1x10000x10000_S10000x10000)) transposes_S1x64x10000_S1x10000x64_0_2_1)
    (broadcastInDim S1x10000x64 ![0, 1, 2] bcast_S1x1x64_S1x10000x64_0_1_2 (broadcastInDim S1x1x64 ![2] bcast_S64_S1x1x64_2
      (shapeCast _ (extractStridedSlice S1x64 ![0, 0] b slices_S2x64_S1x64_0_0) shapeCasts_S1x64_S64))))
    (broadcastInDim S1x10000x64 ![] bcast_S_S1x10000x64 (constant S_ .f32 0x00000000#32)))

/-- Path two's convolution of a view. -/
def convB (X : FVec Ideal S1x10000x128 .f32) (A : FVec Ideal S2x10000x10000 .f32) (W : FVec Ideal S2x128x64 .f32)
    (b : FVec Ideal S2x64 .f32) : FVec Ideal S1x1x10000x64 .f32 :=
  broadcastInDim S1x1x10000x64 ![1, 2, 3] bcast_S1x10000x64_S1x1x10000x64_1_2_3 (maximumf (addf
    (transpose S1x10000x64 [0, 2, 1]
      (Host.dotGeneral dot_S1x10000x64_S10000x10000_S1x64x10000_1_1_02_0_n_n none
        (Host.dotGeneral dot_S1x10000x128_S128x64_S1x10000x64_2_0_01_1_n_n none X
          (shapeCast _ (extractStridedSlice S1x128x64 ![1, 0, 0] W slices_S2x128x64_S1x128x64_1_0_0) shapeCasts_S1x128x64_S128x64))
        (shapeCast _ (extractStridedSlice S1x10000x10000 ![1, 0, 0] A slices_S2x10000x10000_S1x10000x10000_1_0_0)
          shapeCasts_S1x10000x10000_S10000x10000)) transposes_S1x64x10000_S1x10000x64_0_2_1)
    (broadcastInDim S1x10000x64 ![0, 1, 2] bcast_S1x1x64_S1x10000x64_0_1_2 (broadcastInDim S1x1x64 ![2] bcast_S64_S1x1x64_2
      (shapeCast _ (extractStridedSlice S1x64 ![1, 0] b slices_S2x64_S1x64_1_0) shapeCasts_S1x64_S64))))
    (broadcastInDim S1x10000x64 ![] bcast_S_S1x10000x64 (constant S_ .f32 0x00000000#32)))

/-- The two paths' features, one above the other. -/
def stack (h h' : FVec Ideal S1x1x10000x64 .f32) : FVec Ideal S2x1x10000x64 .f32 :=
  concatenate S2x1x10000x64 0 [⟨S1x1x10000x64, h⟩, ⟨S1x1x10000x64, h'⟩] concatenates_S1x1x10000x64_S1x1x10000x64_S2x1x10000x64_d0

/-- The paths' attention scores. -/
def scores (H : FVec Ideal S2x1x10000x64 .f32) (Wa : FVec Ideal S64x32 .f32) (ba q : FVec Ideal S32 .f32) : FVec Ideal S2x1 .f32 :=
  Host.divf (Host.reduceAdd (mulf (Host.tanh (addf
      (Host.dotGeneral dot_S2x1x10000x64_S64x32_S2x1x10000x32_3_0_012_1_n_n none H Wa)
      (broadcastInDim S2x1x10000x32 ![0, 1, 2, 3] bcast_S1x1x1x32_S2x1x10000x32_0_1_2_3
        (broadcastInDim S1x1x1x32 ![3] bcast_S32_S1x1x1x32_3 ba))))
      (broadcastInDim S2x1x10000x32 ![0, 1, 2, 3] bcast_S1x1x1x32_S2x1x10000x32_0_1_2_3
        (broadcastInDim S1x1x1x32 ![3] bcast_S32_S1x1x1x32_3 q)))
    (constant S_ .f32 0x00000000#32) reducesTo_S2x1x10000x32_S2x1_d2_3 h_S_)
    (broadcastInDim S2x1 ![] bcast_S_S2x1 (constant S_ .f32 0x461C4000#32))

/-- The exponentials of the scores less their maximum. -/
def powers (s : FVec Ideal S2x1 .f32) : FVec Ideal S2x1 .f32 :=
  Host.exp (subf s (broadcastInDim S2x1 ![0, 1] bcast_S1x1_S2x1_0_1 (broadcastInDim S1x1 ![1] bcast_S1_S1x1_1
    (maximumf (broadcastInDim S1 ![] bcast_S_S1 (constant S_ .f32 0xFF800000#32))
      (Host.reduce FloatOps.maximumf s (constant S_ .f32 0xFF800000#32) reducesTo_S2x1_S1_d0 h_S_)))))

/-- The softmax weights: the exponentials over their sum. -/
def weights (e : FVec Ideal S2x1 .f32) : FVec Ideal S2x1 .f32 :=
  Host.divf e (broadcastInDim S2x1 ![0, 1] bcast_S1x1_S2x1_0_1 (broadcastInDim S1x1 ![1] bcast_S1_S1x1_1
    (Host.reduceAdd e (constant S_ .f32 0x00000000#32) reducesTo_S2x1_S1_d0 h_S_)))

/-- The paths mixed by their weights. -/
def mixed (w : FVec Ideal S2x1 .f32) (H : FVec Ideal S2x1x10000x64 .f32) : FVec Ideal S1x10000x64 .f32 :=
  Host.dotGeneral dot_S2x1_S2x1x10000x64_S1x10000x64_0_0_n_23_1_1 none w H

/-- The squashed masked mean. -/
def ctx (M : FVec Ideal S1x10000x64 .f32) (msk : FVec Ideal S1x10000 .f32) : FVec Ideal S1x64 .f32 :=
  Host.divf (broadcastInDim S1x64 ![] bcast_S_S1x64 (constant S_ .f32 0x3F800000#32))
    (addf (broadcastInDim S1x64 ![] bcast_S_S1x64 (constant S_ .f32 0x3F800000#32))
      (Host.exp (Host.negf (Host.divf
        (Host.reduceAdd (mulf M (broadcastInDim S1x10000x64 ![0, 1, 2] bcast_S1x10000x1_S1x10000x64_0_1_2
          (broadcastInDim S1x10000x1 ![0, 1] bcast_S1x10000_S1x10000x1_0_1 msk)))
          (constant S_ .f32 0x00000000#32) reducesTo_S1x10000x64_S1x64_d1 h_S_)
        (broadcastInDim S1x64 ![0, 1] bcast_S1x1_S1x64_0_1 (broadcastInDim S1x1 ![0] bcast_S1_S1x1_0
          (Host.reduceAdd msk (constant S_ .f32 0x00000000#32) reducesTo_S1x10000_S1_d1 h_S_)))))))

/-- A view's scores against a context, plus its bias. -/
def scored (v : FVec Ideal S1x64 .f32) (Wd : FVec Ideal S64x64 .f32) (M : FVec Ideal S1x10000x64 .f32)
    (b : FVec Ideal S1x10000 .f32) : FVec Ideal S1x10000 .f32 :=
  addf (Host.dotGeneral dot_S1x10000x64_S1x64_S1x10000_2_1_1_n_0_0 none M
    (Host.dotGeneral dot_S1x64_S64x64_S1x64_1_0_0_1_n_n none v Wd)) b

/-- The two views' scores, one after the other. -/
def joined (a b : FVec Ideal S1x10000 .f32) : FVec Ideal S1x20000 .f32 :=
  concatenate S1x20000 1 [⟨S1x10000, a⟩, ⟨S1x10000, b⟩] concatenates_S1x10000_S1x10000_S1x20000_d1

/-- A view's features, mixed from its stacked paths. -/
def mixOf (H : FVec Ideal S2x1x10000x64 .f32) (Wa : FVec Ideal S64x32 .f32) (ba q : FVec Ideal S32 .f32) : FVec Ideal S1x10000x64 .f32 :=
  mixed (weights (powers (scores H Wa ba q))) H

/-- A view's stacked paths. -/
def pathsOf (X : FVec Ideal S1x10000x128 .f32) (A : FVec Ideal S2x10000x10000 .f32) (W : FVec Ideal S2x128x64 .f32)
    (b : FVec Ideal S2x64 .f32) : FVec Ideal S2x1x10000x64 .f32 :=
  stack (convA X A W b) (convB X A W b)

/-- The reference, composed of its stages. -/
def refOut (X X' : FVec Ideal S1x10000x128 .f32) (A : FVec Ideal S2x10000x10000 .f32) (msk b1 b2 : FVec Ideal S1x10000 .f32)
    (W : FVec Ideal S2x128x64 .f32) (b : FVec Ideal S2x64 .f32) (Wa : FVec Ideal S64x32 .f32) (ba q : FVec Ideal S32 .f32)
    (Wd : FVec Ideal S64x64 .f32) : FVec Ideal S1x20000 .f32 :=
  joined
    (scored (ctx (mixOf (pathsOf X A W b) Wa ba q) msk) Wd (mixOf (pathsOf X A W b) Wa ba q) b1)
    (scored (ctx (mixOf (pathsOf X A W b) Wa ba q) msk) Wd (mixOf (pathsOf X' A W b) Wa ba q) b2)

/-- The reference's result is that composition of the arguments. -/
theorem result_eq (m : (ℓ : Loc nD τ sig) → Buf (Elt Ideal) ℓ) (c : Dev nD) :
    Value.res_main_v123 m c = refOut (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) := rfl

end Cert.ReferenceIdeal.Gcn

end
-- ==== Proof.RefStages.lean ====
module

public import proofs.«01_k».proof.Proof.RefParts

/-!
# What each stage of the reference computes

Each stage read at one position, in the plain sums of the specification.
-/

@[expose] public section

set_option maxRecDepth 16384

noncomputable section

namespace Cert.ReferenceIdeal.Gcn

open Cert.ReferenceIdeal Cert.ReferenceIdeal.Gen Cert.Gcn
open Idealize.ShloMosaic

/-- Path one's convolution. The reference multiplies feature by adjacency weight, the specification the other way round. -/
theorem convA_at (X : FVec Ideal S1x10000x128 .f32) (A : FVec Ideal S2x10000x10000 .f32) (W : FVec Ideal S2x128x64 .f32)
    (b : FVec Ideal S2x64 .f32) (n : Fin 10000) (k : Fin 64) :
    convA X A W b (ix4 0 0 n k) = hidden (fun n f => X (ix3 0 n f)) (fun f k => W (ix3 0 f k)) (fun i j => A (ix3 0 i j))
      (fun k => b (ix2 0 k)) n k := by
  generalize hz : hidden (fun n f => X (ix3 0 n f)) (fun f k => W (ix3 0 f k)) (fun i j => A (ix3 0 i j)) (fun k => b (ix2 0 k)) n k = z
  pointwise [convA]
  subst hz
  exact congrArg (fun s => max (s + _) 0) (Finset.sum_congr rfl fun _ _ => mul_comm _ _)

/-- Path two's convolution. -/
theorem convB_at (X : FVec Ideal S1x10000x128 .f32) (A : FVec Ideal S2x10000x10000 .f32) (W : FVec Ideal S2x128x64 .f32)
    (b : FVec Ideal S2x64 .f32) (n : Fin 10000) (k : Fin 64) :
    convB X A W b (ix4 0 0 n k) = hidden (fun n f => X (ix3 0 n f)) (fun f k => W (ix3 1 f k)) (fun i j => A (ix3 1 i j))
      (fun k => b (ix2 1 k)) n k := by
  generalize hz : hidden (fun n f => X (ix3 0 n f)) (fun f k => W (ix3 1 f k)) (fun i j => A (ix3 1 i j)) (fun k => b (ix2 1 k)) n k = z
  pointwise [convB]
  subst hz
  exact congrArg (fun s => max (s + _) 0) (Finset.sum_congr rfl fun _ _ => mul_comm _ _)

/-- The stack's first layer. -/
theorem stack0_at (h h' : FVec Ideal S1x1x10000x64 .f32) (n : Fin 10000) (k : Fin 64) :
    stack h h' (ix4 0 0 n k) = h (ix4 0 0 n k) := by
  pointwise [stack]

/-- The stack's second layer. -/
theorem stack1_at (h h' : FVec Ideal S1x1x10000x64 .f32) (n : Fin 10000) (k : Fin 64) :
    stack h h' (ix4 1 0 n k) = h' (ix4 0 0 n k) := by
  pointwise [stack]

/-- A path's attention score. -/
theorem scores_at (H : FVec Ideal S2x1x10000x64 .f32) (Wa : FVec Ideal S64x32 .f32) (ba q : FVec Ideal S32 .f32) (p : Fin 2) :
    scores H Wa ba q (ix2 p 0) = score (fun k s => Wa (ix2 k s)) (fun s => ba (ix1 s)) (fun s => q (ix1 s))
      (fun n k => H (ix4 p 0 n k)) := by
  generalize hz : score (fun k s => Wa (ix2 k s)) (fun s => ba (ix1 s)) (fun s => q (ix1 s)) (fun n k => H (ix4 p 0 n k)) = z
  pointwise [scores]
  subst hz
  rfl

/-- The exponential of a score less the maximum of both. -/
theorem powers_at (s : FVec Ideal S2x1 .f32) (p : Fin 2) :
    powers s (ix2 p 0) = Ideal.exp (s (ix2 p 0) - max (s (ix2 0 0)) (s (ix2 1 0))) := by
  pointwise [powers]
  have hb : Ideal.ofBits FTy.f32 4286578688#32 = ⊥ := by simp [Ideal.ofBits, Ideal.ieee]
  rw [hb, max_eq_right bot_le]
  simp [Fin.univ_succ]

/-- A softmax weight. -/
theorem weights_at (e : FVec Ideal S2x1 .f32) (p : Fin 2) :
    weights e (ix2 p 0) = Ideal.div (e (ix2 p 0)) (e (ix2 0 0) + e (ix2 1 0)) := by
  pointwise [weights]
  rw [Fin.sum_univ_two]

/-- The mixed features. -/
theorem mixed_at (w : FVec Ideal S2x1 .f32) (H : FVec Ideal S2x1x10000x64 .f32) (n : Fin 10000) (k : Fin 64) :
    mixed w H (ix3 0 n k) = w (ix2 0 0) * H (ix4 0 0 n k) + w (ix2 1 0) * H (ix4 1 0 n k) := by
  pointwise [mixed]
  rw [Fin.sum_univ_two]

/-- The context vector. -/
theorem ctx_at (M : FVec Ideal S1x10000x64 .f32) (msk : FVec Ideal S1x10000 .f32) (k : Fin 64) :
    ctx M msk (ix2 0 k) = context (fun n => msk (ix2 0 n)) (fun n k => M (ix3 0 n k)) k := by
  generalize hz : context (fun n => msk (ix2 0 n)) (fun n k => M (ix3 0 n k)) k = z
  pointwise [ctx]
  subst hz
  rfl

/-- A node's score. -/
theorem scored_at (v : FVec Ideal S1x64 .f32) (Wd : FVec Ideal S64x64 .f32) (M : FVec Ideal S1x10000x64 .f32)
    (b : FVec Ideal S1x10000 .f32) (n : Fin 10000) :
    scored v Wd M b (ix2 0 n) = against (fun l k => Wd (ix2 l k)) (fun l => v (ix2 0 l)) (fun n k => M (ix3 0 n k)) n + b (ix2 0 n) := by
  generalize hz : against (fun l k => Wd (ix2 l k)) (fun l => v (ix2 0 l)) (fun n k => M (ix3 0 n k)) n = z
  pointwise [scored]
  subst hz
  rfl

/-- The result's entries: view one's scores, then view two's. -/
theorem joined_at (a b : FVec Ideal S1x10000 .f32) (i : Fin 20000) :
    joined a b (ix2 0 i) = if h : (i : ℕ) < 10000 then a (ix2 0 ⟨i, h⟩) else b (ix2 0 ⟨i - 10000, by omega⟩) := by
  pointwise [joined]

end Cert.ReferenceIdeal.Gcn

end
-- ==== Proof.RefValue.lean ====
module

public import proofs.«01_k».proof.Proof.RefStages

/-!
# What the reference computes

The stages put together: every entry of the reference's result is the specification's.
-/

@[expose] public section

set_option maxRecDepth 16384

noncomputable section

namespace Cert.ReferenceIdeal.Gcn

open Cert.ReferenceIdeal Cert.ReferenceIdeal.Gen Cert.Gcn
open Idealize.ShloMosaic

/-- A view's mixed features, from its stacked paths. -/
theorem mixOf_at (H : FVec Ideal S2x1x10000x64 .f32) (Wa : FVec Ideal S64x32 .f32) (ba q : FVec Ideal S32 .f32)
    (n : Fin 10000) (k : Fin 64) :
    mixOf H Wa ba q (ix3 0 n k) = mix (fun k s => Wa (ix2 k s)) (fun s => ba (ix1 s)) (fun s => q (ix1 s))
      (fun n k => H (ix4 0 0 n k)) (fun n k => H (ix4 1 0 n k)) n k := by
  unfold mixOf
  rw [mixed_at, weights_at, weights_at, powers_at, powers_at, scores_at, scores_at]
  rfl

variable (X X' : FVec Ideal S1x10000x128 .f32) (A : FVec Ideal S2x10000x10000 .f32) (msk b1 b2 : FVec Ideal S1x10000 .f32)
  (W : FVec Ideal S2x128x64 .f32) (b : FVec Ideal S2x64 .f32) (Wa : FVec Ideal S64x32 .f32) (ba q : FVec Ideal S32 .f32)
  (Wd : FVec Ideal S64x64 .f32)

/-- A view's mixed features, from the view's own features. -/
theorem mixPaths : (fun n k => mixOf (pathsOf X A W b) Wa ba q (ix3 0 n k))
    = mix (fun k s => Wa (ix2 k s)) (fun s => ba (ix1 s)) (fun s => q (ix1 s))
      (hidden (fun n f => X (ix3 0 n f)) (fun f k => W (ix3 0 f k)) (fun i j => A (ix3 0 i j)) (fun k => b (ix2 0 k)))
      (hidden (fun n f => X (ix3 0 n f)) (fun f k => W (ix3 1 f k)) (fun i j => A (ix3 1 i j)) (fun k => b (ix2 1 k))) := by
  have e0 : (fun n k => pathsOf X A W b (ix4 0 0 n k))
      = hidden (fun n f => X (ix3 0 n f)) (fun f k => W (ix3 0 f k)) (fun i j => A (ix3 0 i j)) (fun k => b (ix2 0 k)) :=
    funext₂ fun n k => (stack0_at _ _ n k).trans (convA_at X A W b n k)
  have e1 : (fun n k => pathsOf X A W b (ix4 1 0 n k))
      = hidden (fun n f => X (ix3 0 n f)) (fun f k => W (ix3 1 f k)) (fun i j => A (ix3 1 i j)) (fun k => b (ix2 1 k)) :=
    funext₂ fun n k => (stack1_at _ _ n k).trans (convB_at X A W b n k)
  rw [← e0, ← e1]
  exact funext₂ fun n k => mixOf_at _ Wa ba q n k

/-- Every entry of the reference's result. -/
theorem refOut_at (i : Fin 20000) : refOut X X' A msk b1 b2 W b Wa ba q Wd (ix2 0 i)
    = outputs (fun n f => X (ix3 0 n f)) (fun n f => X' (ix3 0 n f)) (fun p i j => A (ix3 p i j)) (fun n => msk (ix2 0 n))
      (fun n => b1 (ix2 0 n)) (fun n => b2 (ix2 0 n)) (fun p f k => W (ix3 p f k)) (fun p k => b (ix2 p k))
      (fun k s => Wa (ix2 k s)) (fun s => ba (ix1 s)) (fun s => q (ix1 s)) (fun l k => Wd (ix2 l k)) i := by
  unfold refOut outputs logit
  have ec (k : Fin 64) := ctx_at (mixOf (pathsOf X A W b) Wa ba q) msk k
  rw [joined_at]
  by_cases h : (i : ℕ) < 10000
  · have hv : (i : ℕ) / 10000 < 1 := by omega
    have hn : (⟨i % 10000, by omega⟩ : Fin 10000) = ⟨i, h⟩ := Fin.ext (Nat.mod_eq_of_lt h)
    rw [dif_pos h, scored_at, hn]
    simp only [if_pos hv, ec, mixPaths]
  · have hv : ¬(i : ℕ) / 10000 < 1 := by omega
    have hn : (⟨i % 10000, by omega⟩ : Fin 10000) = ⟨i - 10000, by omega⟩ := Fin.ext (by simp only []; omega)
    rw [dif_neg h, scored_at, hn]
    simp only [if_neg hv, ec, mixPaths]

end Cert.ReferenceIdeal.Gcn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KernelValue
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's frame: its run leaves the arguments as launched, and it declares no semaphore. -/
theorem reference_frame : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and the reference end with the same result: entry by entry, both hold the specification's number. -/
theorem algebraic : Cert.algebraic_KernelIdeal_ReferenceIdeal := by
  pair_intro
  · exact Cert.KernelIdeal.Gcn.result_run m g
  · run_from Cert.ReferenceIdeal.Value.run m' g'
    obtain ⟨h0, h1, h2, -, h4, h5, h6, h7, h8, h9, h10, h11, h12⟩ := hagree c
    rw [Cert.ReferenceIdeal.Gcn.result_eq, h0, h1, h2, h4, h5, h6, h7, h8, h9, h10, h11, h12]
    funext j
    obtain ⟨i, rfl⟩ : ∃ i : Fin 20000, j = ix2 (0 : Fin 1) i := ⟨j 1, by blk_ext⟩
    exact (Cert.ReferenceIdeal.Gcn.refOut_at _ _ _ _ _ _ _ _ _ _ _ _ i).trans (Cert.KernelIdeal.Gcn.result_at m g c i).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
